-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32768 : Shape := ⟨2, ![64, 32768]⟩
abbrev S32768x1024 : Shape := ⟨2, ![32768, 1024]⟩
abbrev S1024x512 : Shape := ⟨2, ![1024, 512]⟩
abbrev S32768x512 : Shape := ⟨2, ![32768, 512]⟩
abbrev S1024x1024 : Shape := ⟨2, ![1024, 1024]⟩
abbrev S_ : Shape := ⟨0, ![]⟩
abbrev S512 : Shape := ⟨1, ![512]⟩
abbrev S1x512 : Shape := ⟨2, ![1, 512]⟩
abbrev S512x32768 : Shape := ⟨2, ![512, 32768]⟩
abbrev S512x512 : Shape := ⟨2, ![512, 512]⟩
abbrev S512x512x1 : Shape := ⟨3, ![512, 512, 1]⟩
abbrev S64x512x512 : Shape := ⟨3, ![64, 512, 512]⟩

abbrev nBuf : Space → Nat
  | .hbm => 38
  | .vmem => 5
  | .smem => 0
  | _ => 0

abbrev bufTy : (tb : Table) → Fin (tcTables nBuf tb) → BufTy
  | .hbm, ⟨0, _⟩ => ⟨S64x32768, .f32⟩
  | .hbm, ⟨1, _⟩ => ⟨S32768x1024, .f32⟩
  | .hbm, ⟨2, _⟩ => ⟨S1024x512, .f32⟩
  | .hbm, ⟨3, _⟩ => ⟨S32768x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S512x32768, .f32⟩
  | .hbm, ⟨26, _⟩ => ⟨S512x512, .f32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512x1, .i32⟩
  | .hbm, ⟨37, _⟩ => ⟨S64x512x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x32768 : Shape := ⟨2, ![64, 32768]⟩
abbrev S32768x1024 : Shape := ⟨2, ![32768, 1024]⟩
abbrev S1024x512 : Shape := ⟨2, ![1024, 512]⟩
abbrev S32768x512 : Shape := ⟨2, ![32768, 512]⟩
abbrev S_ : Shape := ⟨0, ![]⟩
abbrev S512 : Shape := ⟨1, ![512]⟩
abbrev S1x512 : Shape := ⟨2, ![1, 512]⟩
abbrev S512x32768 : Shape := ⟨2, ![512, 32768]⟩
abbrev S512x512 : Shape := ⟨2, ![512, 512]⟩
abbrev S512x512x1 : Shape := ⟨3, ![512, 512, 1]⟩
abbrev S64x512x512 : Shape := ⟨3, ![64, 512, 512]⟩

abbrev nBuf : Space → Nat
  | .hbm => 38
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S32768x1024, .f32⟩
  | .hbm, ⟨2, _⟩ => ⟨S1024x512, .f32⟩
  | .hbm, ⟨3, _⟩ => ⟨S32768x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S512x32768, .f32⟩
  | .hbm, ⟨26, _⟩ => ⟨S512x512, .f32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512x1, .i32⟩
  | .hbm, ⟨37, _⟩ => ⟨S64x512x512, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Logits.lean ====
/- The product of the pallas_call, over the extended reals: after its thirty-two grid points the array `main_v0`, written
   in blocks of 1024 rows, is the one product of the whole `U` by `W`. -/
module

public import proofs.«01_k».proof.Proof.Gen.KernelIdeal.Frame
public import proofs.«01_k».proof.ReferenceIdeal
public import proofs.«01_k».proof.Proof.Gen.ReferenceIdeal
public import Idealize.ShloMosaic.Lib.Pipeline.Value
public import Idealize.ShloMosaic.Lib.Pipeline.ValueKit
public import Idealize.ShloMosaic.Lib.Pointwise

@[expose] public section

noncomputable section

namespace Cert.Proof.Logits

open Idealize.ShloMosaic Idealize.ShloMosaic.TcCoe Idealize.SL.Sem
open Cert.KernelIdeal Cert.KernelIdeal.Gen

/-- The whole product, as the reference's host operation states it. -/
abbrev product (U : FVec Ideal S32768x1024 .f32) (W : FVec Ideal S1024x512 .f32) : FVec Ideal S32768x512 .f32 :=
  Host.dotGeneral Cert.ReferenceIdeal.dot_S32768x1024_S1024x512_S32768x512_1_0_0_1_n_n none U W

/-- An entry of the whole product is the sum over the contracted axis. -/
theorem product_apply (U : FVec Ideal S32768x1024 .f32) (W : FVec Ideal S1024x512 .f32) (j : S32768x512.Idx) :
    product U W j = ∑ k : Fin 1024, U (ix2 (j 0) k) * W (ix2 k (j 1)) := by
  unfold product
  pointwise

/-- An entry of what the body stores is the same sum over its block's rows. -/
theorem payload_apply (u : Vec Ideal S1024x1024 .f32) (w : Vec Ideal S1024x512 .f32) (y : S1024x512.Idx) :
    k0_pay1 u w y = ∑ k : Fin 1024, u (ix2 (y 0) k) * w (ix2 k (y 1)) := by
  unfold k0_pay1
  pointwise

variable (m : (ℓ : Loc nD τ sig) → Buf (Elt Ideal) ℓ)

/-- Point `t` reads the `t`-th block of rows of `U`, -/
theorem rows_U (t : Fin cfg0.N) : win0_0.index t = ![t.val, 0] := by revert t; decide +kernel
/-- the whole of `W`, -/
theorem rows_W (t : Fin cfg0.N) : win0_1.index t = ![0, 0] := by revert t; decide +kernel
/-- and writes the `t`-th block of rows of the result. -/
theorem rows_out (t : Fin cfg0.N) : win0_2.index t = ![t.val, 0] := by revert t; decide +kernel

/-- After the last grid point the result array of the pallas_call holds the whole product. -/
theorem final (c : Dev nD) :
    (dats m 0 c).arrAt 2 cfg0.N
      = product (m ((c : Thread nD τ).loc main_arg1)) (m ((c : Thread nD τ).loc main_arg2)) := by
  refine (dats m 0 c).arrAt_eq_of_covers 2 _ (by decide +kernel) fun t hf y => ?_
  blk_simp
  rw [after0_2]
  frame_out
  refine (payload_apply _ _ y).trans ((Finset.sum_congr rfl fun k _ => ?_).trans (product_apply _ _ _).symm)
  congr 1
  · exact congrArg (m ((c : Thread nD τ).loc main_arg1)) (by blk_ext [rows_U, rows_out])
  · exact congrArg (m ((c : Thread nD τ).loc main_arg2)) (by blk_ext [rows_W, rows_out])

end Cert.Proof.Logits

end
-- ==== Proof.Selection.lean ====
/- What both programs compute after the logits: the softmax down each column, the shift by the least entry, the 512
   largest rows of each column, and the columns of `X` that they name. -/
module

public import proofs.«01_k».proof.Proof.Gen.KernelIdeal.Launch
public import proofs.«01_k».proof.Proof.Gen.ReferenceIdeal.Run
public import Idealize.ShloMosaic.Lib.StableHlo.Run

@[expose] public section

noncomputable section

namespace Cert.Proof.Selection

open Idealize.ShloMosaic Idealize.ShloMosaic.TcCoe Idealize.SL.Sem Idealize.ShloMosaic.StableHlo
open Cert.KernelIdeal Cert.KernelIdeal.Gen

variable {F : FTy → Type} [FloatOps F]

/-- A row of column values at every row of the array. -/
def down (x : FVec F S512 .f32) : FVec F S32768x512 .f32 :=
  broadcastInDim S32768x512 ![0, 1] bcast_S1x512_S32768x512_0_1 (broadcastInDim S1x512 ![1] bcast_S512_S1x512_1 x)

/-- The exponentials of the logits less the greatest of their column. -/
def exps (L : FVec F S32768x512 .f32) : FVec F S32768x512 .f32 :=
  Host.exp (subf L (down (maximumf (broadcastInDim S512 ![] bcast_S_S512 (constant S_ .f32 0xFF800000#32))
    (Host.reduce FloatOps.maximumf L (constant S_ .f32 0xFF800000#32) reducesTo_S32768x512_S512_d0 h_S_))))

/-- The softmax down each column. -/
def softmax (L : FVec F S32768x512 .f32) : FVec F S32768x512 .f32 :=
  Host.divf (exps L)
    (down (Host.reduceAdd (exps L) (constant S_ .f32 0x00000000#32) reducesTo_S32768x512_S512_d0 h_S_))

/-- The weights, less the least of them all, plus the small constant. -/
def scores (M : FVec F S32768x512 .f32) : FVec F S32768x512 .f32 :=
  addf (subf M (broadcastInDim S32768x512 ![] bcast_S_S32768x512
      (Host.reduce FloatOps.minimumf M (constant S_ .f32 0x7F800000#32) reducesTo_S32768x512_S_d0_1 h_S_)))
    (broadcastInDim S32768x512 ![] bcast_S_S32768x512 (constant S_ .f32 0x3727C5AC#32))

/-- The rows of the 512 greatest scores of each column, greatest first. -/
def chosen (A : FVec F S32768x512 .f32) : (⟨S512x512, .i32⟩ : BufTy).Contents (Elt F) :=
  transpose S512x512 [1, 0]
    (Host.topK S512x512 1 (FloatOps.cmpfTotal .gt) (transpose S512x32768 [1, 0] A transposes_S32768x512_S512x32768_1_0)
      sliceFits_S512x32768_S512x512).2
    transposes_S512x512_S512x512_1_0

/-- A negative index counts from the end. -/
def wrapped (i : (⟨S512x512, .i32⟩ : BufTy).Contents (Elt F)) : (⟨S512x512, .i32⟩ : BufTy).Contents (Elt F) :=
  select (cmpi .slt i (broadcastInDim S512x512 ![] bcast_S_S512x512 (constantI S_ 32 0#32)))
    (addi i (broadcastInDim S512x512 ![] bcast_S_S512x512 (constantI S_ 32 32768#32))) i

/-- The columns of `X` that the logits `L` select. -/
def selected (X : FVec F S64x32768 .f32) (L : FVec F S32768x512 .f32) : FVec F S64x512x512 .f32 :=
  Host.gather gather_S64x32768_S512x512x1_S64x512x512_0_1_n_n_1_2_641 X
    (broadcastInDim S512x512x1 ![0, 1] bcast_S512x512_S512x512x1_0_1 (wrapped (F := F) (chosen (scores (softmax L)))))

set_option maxHeartbeats 4000000 in
/-- The kernel program's host lines, run from any contents, leave in the result the selection from its logits. -/
theorem kernel_tail (V : Valuation τ sig (Elt F)) :
    after hostOps1 V (Proc.devRef .tc main_v25)
      = selected (V (Proc.devRef .tc main_arg0)) (V (Proc.devRef .tc main_v0)) := by
  after_results_simp
  rfl

/-- The reference's result is the selection from the one host product of `U` by `W`. -/
theorem reference_out (m : (ℓ : Loc Cert.ReferenceIdeal.nD Cert.ReferenceIdeal.τ Cert.ReferenceIdeal.sig) → Buf (Elt F) ℓ)
    (c : Dev Cert.ReferenceIdeal.nD) :
    Cert.ReferenceIdeal.Value.res_out0 m c
      = selected (m ((c.tc : Thread _ _).loc Cert.ReferenceIdeal.main_arg0))
          (Host.dotGeneral Cert.ReferenceIdeal.dot_S32768x1024_S1024x512_S32768x512_1_0_0_1_n_n none
            (m ((c.tc : Thread _ _).loc Cert.ReferenceIdeal.main_arg1))
            (m ((c.tc : Thread _ _).loc Cert.ReferenceIdeal.main_arg2))) := by
  unfold Cert.ReferenceIdeal.Value.res_out0 Cert.ReferenceIdeal.Value.res_main_v25
  rfl

end Cert.Proof.Selection

end
-- ==== Proof.Value.lean ====
/- The value claim: the idealized kernel's result, and its equality with the reference's. -/
module

public import proofs.«01_k».proof.Defs
public import proofs.«01_k».proof.Proof.Logits
public import proofs.«01_k».proof.Proof.Selection
public import proofs.«01_k».proof.Proof.Gen.KernelIdeal.Frame
public import proofs.«01_k».proof.Proof.Gen.ReferenceIdeal.Run
public import Idealize.ShloMosaic.Lib.Quiescent

@[expose] public section

noncomputable section

namespace Cert.Proof.Value

open Idealize.ShloMosaic Idealize.ShloMosaic.TcCoe Idealize.SL.Sem
open Cert.KernelIdeal Cert.KernelIdeal.Gen
open Cert.Proof.Logits (product)
open Cert.Proof.Selection (selected)

variable (m : (ℓ : Loc nD τ sig) → Buf (Elt Ideal) ℓ) (ρ : Dev nD → PrngReg)

/-- The columns of `X` that the product of `U` by `W` selects: what the result is shown to hold. -/
def result (c : Dev nD) : Buf (Elt Ideal) ((c.tc : Thread nD τ).loc main_v25) :=
  selected (m ((c.tc : Thread nD τ).loc main_arg0))
    (product (m ((c.tc : Thread nD τ).loc main_arg1)) (m ((c.tc : Thread nD τ).loc main_arg2)))

/-- The host lines after the pallas_call, run from the memory it leaves, end with `result` in the program's result. -/
theorem tail_result (c : Dev nD) :
    Pipeline.afterTail₀ cfgs (dats m) 0 (V0 m) [hostOps1] c main_v25 = result m c := by
  unfold Pipeline.afterTail₀
  rw [List.flatten_cons, List.flatten_nil, List.append_nil, Selection.kernel_tail]
  have hX := Pipeline.withArrays_of_ne spec0 c (V0 m c) (fun w => (dats m 0 c).arrAt w cfg0.N) main_arg0
    (by decide : ∀ w, Pipeline.arrRef spec0 w ≠ main_arg0)
  have hL := Pipeline.withArrays_arr spec0 launch0.win.arr_inj c (V0 m c)
    (fun w => (dats m 0 c).arrAt w cfg0.N) 2
  exact congrArg₂ selected (hX.trans (V_main_arg0 m c)) (hL.trans (Logits.final m c))

/-- Every run of the idealized kernel ends with `result` in its result and its arguments as they were. -/
theorem kernel_run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v25 (Pipeline.mem_restRefs_of main_v25 (by decide) (by decide))).trans (tail_result m c), h.2 c⟩)
    (θ_run_and (run_main m ρ) (unchanged m ρ))

/-- Kernel and reference compute one function over the extended reals. -/
theorem algebraic : Cert.algebraic_KernelIdeal_ReferenceIdeal := by
  intro m ρ m' ρ' _ agree
  refine ⟨result m, kernel_run m ρ, ?_⟩
  refine (θ_run Cert.ReferenceIdeal.defs _ _).mono (fun _ h c => ⟨(h c).1.trans ?_, (h c).2⟩)
    (Cert.ReferenceIdeal.Value.run (F := Ideal) m' ρ')
  refine (Selection.reference_out m' c).trans ?_
  rw [(agree c).1, (agree c).2.1, (agree c).2.2]
  rfl

/-- The reference ends with its arguments as they were; it has no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Value

end
-- ==== Proof.lean ====
/- The five claims about the kernel: each program's frame, the ideal program as the kernel's own, and the equality of
   kernel and reference over the extended reals. The kernel's frames are the generated ones; the rest is in Proof/Value.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- Everything that is claimed of the three programs. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    Value.reference_frame,
    trivial,
    Value.algebraic⟩

end Cert.Proof

end
